-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3D93CD3A#32 (((Real.sqrt 192)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32x16x512 : Shape := ⟨3, ![32, 16, 512]⟩
abbrev S32x16x64 : Shape := ⟨3, ![32, 16, 64]⟩
abbrev S32x4096x576 : Shape := ⟨3, ![32, 4096, 576]⟩
abbrev S16x512x128 : Shape := ⟨3, ![16, 512, 128]⟩
abbrev S2048x4096 : Shape := ⟨2, ![2048, 4096]⟩
abbrev S_ : Shape := ⟨0, ![]⟩

class Facts : Prop where
  bcast_S_S32x16x512 : S_.BroadcastsInDim S32x16x512 (![] : Fin 0 → Fin S32x16x512.rank)
  reducesTo_S32x16x512_S_d0_1_2 : S32x16x512.ReducesTo [0, 1, 2] S_
  h_S_ : 0 < S_.numel
  bcast_S_S32x16x64 : S_.BroadcastsInDim S32x16x64 (![] : Fin 0 → Fin S32x16x64.rank)
  reducesTo_S32x16x64_S_d0_1_2 : S32x16x64.ReducesTo [0, 1, 2] S_
  bcast_S_S32x4096x576 : S_.BroadcastsInDim S32x4096x576 (![] : Fin 0 → Fin S32x4096x576.rank)
  reducesTo_S32x4096x576_S_d0_1_2 : S32x4096x576.ReducesTo [0, 1, 2] S_

variable [Facts]

def fn {F : FTy → Type} [FloatOps F] (main_arg0 : FVec F S32x16x512 .f32) (main_arg1 : FVec F S32x16x64 .f32) (main_arg2 : FVec F S32x4096x576 .f32) (main_arg3 : FVec F S16x512x128 .f32) (main_arg4 : FVec F S2048x4096 .f32) : IVec S_ 1 :=
  let main_v0 : FVec F S32x16x512 .f32 := Host.absf main_arg0
  let main_cst : FVec F S_ .f32 := constant S_ .f32 0x7F800000#32
  let main_v1 : FVec F S32x16x512 .f32 := broadcastInDim S32x16x512 ![] bcast_S_S32x16x512 main_cst
  let main_v2 : IVec S32x16x512 1 := cmpf .olt main_v0 main_v1
  let main_c : IVec S_ 1 := constantI S_ 1 1#1
  let main_v3 : IVec S_ 1 := (fun x v => Host.reduce IntOp.andi x v reducesTo_S32x16x512_S_d0_1_2 h_S_) main_v2 main_c
  let main_v4 : FVec F S32x16x64 .f32 := Host.absf main_arg1
  let main_cst_0 : FVec F S_ .f32 := constant S_ .f32 0x7F800000#32
  let main_v5 : FVec F S32x16x64 .f32 := broadcastInDim S32x16x64 ![] bcast_S_S32x16x64 main_cst_0
  let main_v6 : IVec S32x16x64 1 := cmpf .olt main_v4 main_v5
  let main_c_1 : IVec S_ 1 := constantI S_ 1 1#1
  let main_v7 : IVec S_ 1 := (fun x v => Host.reduce IntOp.andi x v reducesTo_S32x16x64_S_d0_1_2 h_S_) main_v6 main_c_1
  let main_v8 : IVec S_ 1 := andi main_v3 main_v7
  let main_v9 : FVec F S32x4096x576 .f32 := Host.absf main_arg2
  let main_cst_2 : FVec F S_ .f32 := constant S_ .f32 0x7F800000#32
  let main_v10 : FVec F S32x4096x576 .f32 := broadcastInDim S32x4096x576 ![] bcast_S_S32x4096x576 main_cst_2
  let main_v11 : IVec S32x4096x576 1 := cmpf .olt main_v9 main_v10
  let main_c_3 : IVec S_ 1 := constantI S_ 1 1#1
  let main_v12 : IVec S_ 1 := (fun x v => Host.reduce IntOp.andi x v reducesTo_S32x4096x576_S_d0_1_2 h_S_) main_v11 main_c_3
  let main_v13 : IVec S_ 1 := andi main_v8 main_v12
  main_v13
-- ==== Kernel.lean ====
abbrev S32x16x512 : Shape := ⟨3, ![32, 16, 512]⟩
abbrev S32x16x64 : Shape := ⟨3, ![32, 16, 64]⟩
abbrev S32x4096x576 : Shape := ⟨3, ![32, 4096, 576]⟩
abbrev S16x512x128 : Shape := ⟨3, ![16, 512, 128]⟩
abbrev S2048x4096 : Shape := ⟨2, ![2048, 4096]⟩
abbrev S32x576x4096 : Shape := ⟨3, ![32, 576, 4096]⟩
abbrev S32x4096 : Shape := ⟨2, ![32, 4096]⟩
abbrev S2x16x512 : Shape := ⟨3, ![2, 16, 512]⟩
abbrev S2x16x64 : Shape := ⟨3, ![2, 16, 64]⟩
abbrev S2x512x4096 : Shape := ⟨3, ![2, 512, 4096]⟩
abbrev S2x64x4096 : Shape := ⟨3, ![2, 64, 4096]⟩
abbrev S2048x512 : Shape := ⟨2, ![2048, 512]⟩
abbrev S32x512 : Shape := ⟨2, ![32, 512]⟩
abbrev S32x2048 : Shape := ⟨2, ![32, 2048]⟩
abbrev S2x16x4096 : Shape := ⟨3, ![2, 16, 4096]⟩
abbrev S2x16 : Shape := ⟨2, ![2, 16]⟩
abbrev S2x16x1 : Shape := ⟨3, ![2, 16, 1]⟩
abbrev S16x32x128 : Shape := ⟨3, ![16, 32, 128]⟩
abbrev S32x16x128 : Shape := ⟨3, ![32, 16, 128]⟩

abbrev nBuf : Space → Nat
  | .hbm => 7
  | .vmem => 15
  | .smem => 0
  | _ => 0

abbrev bufTy : (tb : Table) → Fin (tcTables nBuf tb) → BufTy
  | .hbm, ⟨0, _⟩ => ⟨S32x16x512, .f32⟩
  | .hbm, ⟨1, _⟩ => ⟨S32x16x64, .f32⟩
  | .hbm, ⟨2, _⟩ => ⟨S32x4096x576, .f32⟩
  | .hbm, ⟨3, _⟩ => ⟨S16x512x128, .f32⟩
  | .hbm, ⟨4, _⟩ => ⟨S2048x4096, .f32⟩
  | .hbm, ⟨5, _⟩ => ⟨S32x576x4096, .f32⟩
  | .hbm, ⟨6, _⟩ => ⟨S32x4096, .f32⟩
  | .local _ .vmem, ⟨0, _⟩ => ⟨S2x16x512, .f32⟩
  | .local _ .vmem, ⟨1, _⟩ => ⟨S2x16x512, .f32⟩
  | .local _ .vmem, ⟨2, _⟩ => ⟨S2x16x64, .f32⟩
  | .local _ .vmem, ⟨3, _⟩ => ⟨S2x16x64, .f32⟩
  | .local _ .vmem, ⟨4, _⟩ => ⟨S2x512x4096, .f32⟩
  | .local _ .vmem, ⟨5, _⟩ => ⟨S2x512x4096, .f32⟩
  | .local _ .vmem, ⟨6, _⟩ => ⟨S2x64x4096, .f32⟩
  | .local _ .vmem, ⟨7, _⟩ => ⟨S2x64x4096, .f32⟩
  | .local _ .vmem, ⟨8, _⟩ => ⟨S16x512x128, .f32⟩
  | .local _ .vmem, ⟨9, _⟩ => ⟨S2048x512, .f32⟩
  | .local _ .vmem, ⟨10, _⟩ => ⟨S2048x512, .f32⟩
  | .local _ .vmem, ⟨11, _⟩ => ⟨S32x512, .f32⟩
  | .local _ .vmem, ⟨12, _⟩ => ⟨S32x512, .f32⟩
  | .local _ .vmem, ⟨13, _⟩ => ⟨S32x16x512, .f32⟩
  | .local _ .vmem, ⟨14, _⟩ => ⟨S32x2048, .bf16⟩
  | _, _ => ⟨S32x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c2_i32 : BitVec 32 := 2#32
  let v35 : BitVec 32 := Scalar.muli arg0 c2_i32
  let v36 : Index := Scalar.indexCast v35
  let c0_20 : Index := 0#32
  let c0_21 : Index := 0#32
  ![v36.toNat, 0, 0]
def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let c0_i32 : BitVec 32 := 0#32
  let c0_i32_0 : BitVec 32 := 0#32
  ![v0.toNat, c8_i32.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

abbrev stage0_0 : Fin 2 → Memref sig .tc .vmem S2x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "scale" => some (((Real.sqrt 192)⁻¹ : ℝ) : EReal)
  | _ => none
-- ==== ReferenceIdeal.lean ====
abbrev S32x16x512 : Shape := ⟨3, ![32, 16, 512]⟩
abbrev S32x16x64 : Shape := ⟨3, ![32, 16, 64]⟩
abbrev S32x4096x576 : Shape := ⟨3, ![32, 4096, 576]⟩
abbrev S16x512x128 : Shape := ⟨3, ![16, 512, 128]⟩
abbrev S2048x4096 : Shape := ⟨2, ![2048, 4096]⟩
abbrev S32x16x576 : Shape := ⟨3, ![32, 16, 576]⟩
abbrev S_ : Shape := ⟨0, ![]⟩
abbrev S32x16x4096 : Shape := ⟨3, ![32, 16, 4096]⟩
abbrev S32x16 : Shape := ⟨2, ![32, 16]⟩
abbrev S32x16x1 : Shape := ⟨3, ![32, 16, 1]⟩
abbrev S32x4096x512 : Shape := ⟨3, ![32, 4096, 512]⟩
abbrev S16x128x32 : Shape := ⟨3, ![16, 128, 32]⟩
abbrev S32x16x128 : Shape := ⟨3, ![32, 16, 128]⟩
abbrev S32x2048 : Shape := ⟨2, ![32, 2048]⟩
abbrev S32x4096 : Shape := ⟨2, ![32, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32x16x512, .f32⟩
  | .hbm, ⟨1, _⟩ => ⟨S32x16x64, .f32⟩
  | .hbm, ⟨2, _⟩ => ⟨S32x4096x576, .f32⟩
  | .hbm, ⟨3, _⟩ => ⟨S16x512x128, .f32⟩
  | .hbm, ⟨4, _⟩ => ⟨S2048x4096, .f32⟩
  | .hbm, ⟨5, _⟩ => ⟨S32x16x576, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32x16x4096, .f32⟩
  | .hbm, ⟨11, _⟩ => ⟨S32x16x4096, .f32⟩
  | .hbm, ⟨12, _⟩ => ⟨S32x16x4096, .f32⟩
  | .hbm, ⟨13, _⟩ => ⟨S_, .f32⟩
  | .hbm, ⟨14, _⟩ => ⟨S32x16, .f32⟩
  | .hbm, ⟨15, _⟩ => ⟨S_, .f32⟩
  | .hbm, ⟨16, _⟩ => ⟨S32x16, .f32⟩
  | .hbm, ⟨17, _⟩ => ⟨S32x16, .f32⟩
  | .hbm, ⟨18, _⟩ => ⟨S32x16x1, .f32⟩
  | .hbm, ⟨19, _⟩ => ⟨S32x16x4096, .f32⟩
  | .hbm, ⟨20, _⟩ => ⟨S32x16x4096, .f32⟩
  | .hbm, ⟨21, _⟩ => ⟨S32x16x4096, .f32⟩
  | .hbm, ⟨22, _⟩ => ⟨S_, .f32⟩
  | .hbm, ⟨23, _⟩ => ⟨S32x16, .f32⟩
  | .hbm, ⟨24, _⟩ => ⟨S32x16x1, .f32⟩
  | .hbm, ⟨25, _⟩ => ⟨S32x16x4096, .f32⟩
  | .hbm, ⟨26, _⟩ => ⟨S32x16x4096, .f32⟩
  | .hbm, ⟨27, _⟩ => ⟨S32x4096x512, .f32⟩
  | .hbm, ⟨28, _⟩ => ⟨S32x16x512, .f32⟩
  | .hbm, ⟨29, _⟩ => ⟨S16x128x32, .f32⟩
  | .hbm, ⟨30, _⟩ => ⟨S32x16x128, .f32⟩
  | .hbm, ⟨31, _⟩ => ⟨S32x2048, .f32⟩
  | .hbm, ⟨32, _⟩ => ⟨S32x4096, .f32⟩
  | _, _ => ⟨S32x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.KernelFrame.lean ====
/-
  `Kernel`, the program in machine arithmetic, runs and leaves its arguments as they were. Nothing here reads what the
  scratch buffers or the result hold, so a grid point is one statement: from every operand at some contents to every
  operand at some contents, the staged inputs as they were.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers, whole. -/
abbrev scM8 : Memref sig .tc .vmem S32x16x512 .f32 := Memref.whole cc0_scratch0
abbrev scM9 : Memref sig .tc .vmem S32x2048 .bf16 := Memref.whole cc0_scratch1

/-- A grid point, whichever of its three parts run: the inputs come back as they were, the output block and the two
    scratch buffers at some contents. -/
theorem run (c : Dev nD) (i : grid0.Coords)
    (arg1 : Memref sig .tc .vmem S2x16x512 .f32) (harg1 : arg1.IsWhole) (arg2 : Memref sig .tc .vmem S2x16x64 .f32) (harg2 : arg2.IsWhole)
    (arg3 : Memref sig .tc .vmem S2x512x4096 .f32) (harg3 : arg3.IsWhole) (arg4 : Memref sig .tc .vmem S2x64x4096 .f32) (harg4 : arg4.IsWhole)
    (arg5 : Memref sig .tc .vmem S16x512x128 .f32) (harg5 : arg5.IsWhole) (arg6 : Memref sig .tc .vmem S2048x512 .f32) (harg6 : arg6.IsWhole)
    (arg7 : Memref sig .tc .vmem S32x512 .f32) (harg7 : arg7.IsWhole)
    (x1 : Vec F S2x16x512 .f32) (x2 : Vec F S2x16x64 .f32) (x3 : Vec F S2x512x4096 .f32) (x4 : Vec F S2x64x4096 .f32)
    (x5 : Vec F S16x512x128 .f32) (x6 : Vec F S2048x512 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) scM8 fullShare d) ∗ (∃ d, owns (c : Thread nD τ) scM9 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) scM8 fullShare d) ∗ (∃ d, owns (c : Thread nD τ) scM9 fullShare d)) -∗ K ⟨⟩))
      ⊢ wp frame (wpE (defs₀ (F := F)) Variants.none c none) Set.univ
          (cc0__mla_kernel i arg1 harg1 arg2 harg2 arg3 harg3 arg4 harg4 arg5 harg5 arg6 harg6 arg7 harg7 scM8 (Memref.isWhole_whole _) scM9 (Memref.isWhole_whole _)) K := by
  simp only [cc0__mla_kernel_eq_skeleton]; unfold cc0__mla_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, ⟨%d8, %f8, -, H8⟩, ⟨%d9, %f9, -, H9⟩, Hk⟩
  by_cases h1 : k0_cond1 i = 1#1
  all_goals by_cases h2 : Scalar.cmpi .ne (Scalar.extui (Scalar.cmpi .eq (BitVec.ofNat 32 (i 0).val) 16#32) : BitVec 32) 0#32 = 1#1
  all_goals by_cases h3 : k0_cond3 i = 1#1
  all_goals
    sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; iexists _; isplitr; swap; · iexact H7
      ipureintro; rfl
    isplitl [H8]
    · iexists _; iexists _; isplitr; swap; · iexact H8
      ipureintro; rfl
    iexists _; iexists _; isplitr; swap; · iexact H9
    ipureintro; rfl

/-! ## The proof data and the body obligation -/

/-- Only the output's window is forgotten: nothing reads what the kernel leaves there. -/
def forgets : Fin 7 → Bool := fun
  | 0 => false | 1 => false | 2 => false | 3 => false | 4 => false | 5 => false | 6 => true
  | ⟨_ + 7, h⟩ => absurd h (Nat.not_lt.2 (Nat.le_add_left _ _))

/-- The proof data: each input window keeps its block, the invariant is the scratch buffers at some contents. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => X0_2 m c t
    | 3 => fun t => iblk m c 3 t
    | 4 => fun t => iblk m c 4 t
    | 5 => fun t => iblk m c 5 t
    | 6 => fun t => Pipeline.Dat.unnamed (cfg := cfg0) 6 t
    | ⟨_ + 7, h⟩ => absurd h (Nat.not_lt.2 (Nat.le_add_left _ _))
  Φ _ := Pipeline.ΦA spec0 c
  q := Pipeline.shareOf spec0
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = X0_2 m c t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d

/-- What the body is called with at point `t`. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- What it returns. -/
def bodyPost (c : Dev nD) (t : Fin cfg0.N) : sProp 𝕄 :=
  iprop(Pipeline.ΦA spec0 c ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (X0_2 m c t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Pipeline.ΦA
  simp only [before0, before1, before2, before3, before4, before5]
  rw [show (dats m 0 c).owesAt () t.succ = (dats m 0 c).owesAt () t.castSucc from rfl, scopedRest0_eq]
  simp only [← owns_whole]
  iintro ⟨⟨⟨HS8, HS9⟩, Hg⟩, HO, ⟨%d0, H0⟩, ⟨%d1, H1⟩, ⟨%d2, H2⟩, ⟨%d3, H3⟩, ⟨%d4, H4⟩, ⟨%d5, H5⟩, H6⟩
  iapply (run c (grid0.coords t) _ _ _ _ _ _ _ _ _ _ _ _ _ _ (iblk m c 0 t) (iblk m c 1 t) (X0_2 m c t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS8]; · iexact HS8
  isplitl [HS9]; · iexact HS9
  iintro ⟨H0, H1, H2, H3, H4, H5, H6, HS8, HS9⟩
  isplitl [HS8 HS9 Hg]
  · isplitl [HS8 HS9]
    · isplitl [HS8]; · iexact HS8
      iexact HS9
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the pipeline with the output forgotten: the triple restated. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

set_option backward.isDefEq.respectTransparency.types false in
/-- Every fair run of the program ends, with every input array as it was and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hΦ := fun _ _ => rfl) (hQ' := fun _ h => h)

/-- The arguments are left as they were. -/
theorem args_kept {r : PUnit × MemSt nD τ sig (Elt F)}
    (h : Pipeline.RDat.FramePost (cfgs 0) (fun c => (dats m 0 c).toRForget forgets) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  have hin : ∀ w : Fin cfg0.W, (cfg0.win w).isOut = false →
      r.2.mem (((cfgs 0).spec w).arr.view.loc (c : Thread nD τ)) = V m c (Pipeline.arrRef spec0 w) := fun w hw =>
    ((congrFun (((dats m 0 c).toRForget forgets).ArrAt_in w hw cfg0.N) _).mp ((h c).1 w)).trans (A_eq m c w)
  exact ⟨(hin 0 rfl).trans (V_main_arg0 m c), (hin 1 rfl).trans (V_main_arg1 m c),
    ((h c).2 main_arg2 (Pipeline.mem_restRefs_of main_arg2 (by decide) (by decide))).trans (V_main_arg2 m c),
    (hin 4 rfl).trans (V_main_arg3 m c), (hin 5 rfl).trans (V_main_arg4 m c)⟩

end Cert.Kernel.Hand
end
-- ==== Proof.Attention.lean ====
/-
  The mathematics of the problem over the extended reals, with no program in it: the scores, the softmax weights, the
  latent rows with the division after the sum, the up-projected rows and the output rows; and the one equation the
  certificate rests on, that on finite scores the division may be taken before the sum.
-/
module

public import Idealize.ShloMosaic.PureOps.Ideal
public import Idealize.ShloMosaic.Lib.Pointwise

@[expose] public section

noncomputable section

namespace Cert.Attention

open Idealize.ShloMosaic

/-! ## Finite extended reals -/

/-- The value is a real number. -/
def IsReal (x : EReal) : Prop := ∃ r : ℝ, x = (r : EReal)

theorem fin_of_ne {x : EReal} (h₁ : x ≠ ⊥) (h₂ : x ≠ ⊤) : IsReal x := ⟨x.toReal, (EReal.coe_toReal h₂ h₁).symm⟩

theorem fin_coe (r : ℝ) : IsReal (r : EReal) := ⟨r, rfl⟩

theorem fin_add {x y : EReal} (hx : IsReal x) (hy : IsReal y) : IsReal (x + y) := by
  obtain ⟨a, rfl⟩ := hx; obtain ⟨b, rfl⟩ := hy; exact ⟨a + b, (EReal.coe_add a b).symm⟩

theorem fin_mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, read among the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem fin_sum {ι : Type*} (s : Finset ι) (f : ι → EReal) (h : ∀ k, IsReal (f k)) : IsReal (∑ k ∈ s, f k) := by
  choose r hr using h
  exact ⟨∑ k ∈ s, r k, by rw [← coe_sum]; exact Finset.sum_congr rfl fun k _ => hr k⟩

/-- Multiplication by a nonnegative real number distributes over any finite sum of extended reals. -/
theorem sum_mul_coe {ι : Type*} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-! ## Softmax -/

/-- The largest score of a row. -/
def top {n : ℕ} (s : Fin n → EReal) : EReal := Finset.fold max ⊥ s Finset.univ

/-- The weight of a position before the division: the exponential of its score less the largest one. -/
def weight {n : ℕ} (s : Fin n → EReal) (k : Fin n) : EReal := Ideal.exp (s k - top s)

/-- The largest of finitely many real scores is a real number. -/
theorem fin_top {n : ℕ} (s : Fin (n + 1) → EReal) (hs : ∀ k, IsReal (s k)) : IsReal (top s) := by
  refine fin_of_ne ?_ ?_
  · refine ((Finset.lt_fold_max _).mpr (.inr ⟨0, Finset.mem_univ _, ?_⟩)).ne'
    obtain ⟨r, hr⟩ := hs 0
    rw [hr]; exact EReal.bot_lt_coe r
  · refine ((Finset.fold_max_lt _).mpr ⟨bot_lt_top, fun k _ => ?_⟩).ne
    obtain ⟨r, hr⟩ := hs k
    rw [hr]; exact EReal.coe_lt_top r

/-- On real scores every weight is a positive real number. -/
theorem weight_pos {n : ℕ} (s : Fin (n + 1) → EReal) (hs : ∀ k, IsReal (s k)) (k : Fin (n + 1)) :
    ∃ w : ℝ, 0 < w ∧ weight s k = (w : EReal) := by
  obtain ⟨r, hr⟩ := hs k
  obtain ⟨μ, hμ⟩ := fin_top s hs
  refine ⟨Real.exp (r - μ), Real.exp_pos _, ?_⟩
  rw [weight, hr, hμ, ← EReal.coe_sub, Ideal.exp_coe]

/-- On real scores the weighted sum divided by the sum of the weights is the sum weighted by the quotients, whatever
    extended reals are averaged. -/
theorem average_eq {n : ℕ} (s : Fin (n + 1) → EReal) (hs : ∀ k, IsReal (s k)) (x : Fin (n + 1) → EReal) :
    Ideal.div (∑ k, weight s k * x k) (∑ k, weight s k) = ∑ k, Ideal.div (weight s k) (∑ j, weight s j) * x k := by
  choose w hw hws using weight_pos s hs
  have hd : ∑ j, weight s j = ((∑ j, w j : ℝ) : EReal) := by
    rw [← coe_sum]; exact Finset.sum_congr rfl fun k _ => hws k
  have hpos : 0 < ∑ j, w j := Finset.sum_pos (fun k _ => hw k) ⟨0, Finset.mem_univ _⟩
  rw [hd, Ideal.div_coe hpos.ne', sum_mul_coe _ _ (by positivity)]
  refine Finset.sum_congr rfl fun k _ => ?_
  rw [Ideal.div_coe hpos.ne', mul_right_comm]

/-! ## The arrays of the problem -/

/-- `1 / √192`, the factor of every score. -/
def scale : EReal := (((Real.sqrt 192)⁻¹ : ℝ) : EReal)

variable (q : Vec Ideal ⟨3, ![32, 16, 512]⟩ .f32) (p : Vec Ideal ⟨3, ![32, 16, 64]⟩ .f32)
  (kv : Vec Ideal ⟨3, ![32, 4096, 576]⟩ .f32) (uv : Vec Ideal ⟨3, ![16, 512, 128]⟩ .f32)
  (wo : Vec Ideal ⟨2, ![2048, 4096]⟩ .f32)

/-- The score of position `s` for head `h` of batch `b`: the latent part of the query against the first 512 columns of
    the cache, plus the rotary part against the last 64, times `1 / √192`. -/
def score (b : Fin 32) (h : Fin 16) (s : Fin 4096) : EReal :=
  (∑ k : Fin 512, q (ix3 b h k) * kv (ix3 b s ⟨k.val, by omega⟩)
    + ∑ k : Fin 64, p (ix3 b h k) * kv (ix3 b s ⟨512 + k.val, by omega⟩)) * scale

/-- The latent row of head `h` of batch `b`: the weighted sum of the cache's latent rows, divided by the sum of the
    weights. -/
def latent (b : Fin 32) (h : Fin 16) (c : Fin 512) : EReal :=
  Ideal.div (∑ s, weight (score q p kv b h) s * kv (ix3 b s ⟨c.val, by omega⟩)) (∑ s, weight (score q p kv b h) s)

/-- The up-projected rows: column `j` belongs to head `j / 128`. -/
def up (b : Fin 32) (j : Fin 2048) : EReal :=
  ∑ k : Fin 512, latent q p kv b ⟨j.val / 128, by omega⟩ k * uv (ix3 ⟨j.val / 128, by omega⟩ k ⟨j.val % 128, by omega⟩)

/-- The output: the up-projected rows times the output projection. -/
def out (b : Fin 32) (j : Fin 4096) : EReal := ∑ k : Fin 2048, up q p kv uv b k * wo (ix2 k j)

/-- The queries and the cache hold real numbers. -/
structure Finite : Prop where
  q : ∀ i, IsReal (q i)
  p : ∀ i, IsReal (p i)
  kv : ∀ i, IsReal (kv i)

/-- On finite queries and a finite cache every score is a real number. -/
theorem fin_score (hf : Finite q p kv) (b : Fin 32) (h : Fin 16) (s : Fin 4096) : IsReal (score q p kv b h s) :=
  fin_mul (fin_add (fin_sum _ _ fun k => fin_mul (hf.q _) (hf.kv _)) (fin_sum _ _ fun k => fin_mul (hf.p _) (hf.kv _)))
    (fin_coe _)

/-- So the latent row is also the sum of the cache's latent rows weighted by the softmax. -/
theorem latent_eq (hf : Finite q p kv) (b : Fin 32) (h : Fin 16) (c : Fin 512) :
    latent q p kv b h c
      = ∑ s, Ideal.div (weight (score q p kv b h) s) (∑ s', weight (score q p kv b h) s') * kv (ix3 b s ⟨c.val, by omega⟩) :=
  average_eq (n := 4095) (score q p kv b h) (fin_score q p kv hf b h) fun s => kv (ix3 b s ⟨c.val, by omega⟩)

end Cert.Attention
-- ==== Proof.Words.lean ====
/-
  The constants the two programs print, as extended reals.
-/
module

public import proofs.«01_k».proof.Proof.Attention
public import proofs.«01_k».proof.KernelIdeal
public import proofs.«01_k».proof.Pre_finite_inputs

@[expose] public section

noncomputable section

namespace Cert.Words

open Idealize.ShloMosaic

/-- The word of minus infinity, where a maximum starts. -/
theorem neg_inf : Ideal.ofBits FTy.f32 4286578688#32 = (⊥ : EReal) := by simp [Ideal.ofBits, Ideal.ieee]

/-- The word of infinity, which the precondition compares against. -/
theorem pos_inf : Ideal.ofBits FTy.f32 0x7F800000#32 = (⊤ : EReal) := by simp [Ideal.ofBits, Ideal.ieee]

/-- The word of 192. -/
theorem w192 : Ideal.ofBits FTy.f32 1128267776#32 = ((192 : ℝ) : EReal) := by
  simp [Ideal.ofBits, Ideal.ieee, -EReal.coe_mul]; norm_num

/-- The reference's factor: one over the root of 192. -/
theorem ref_scale : Ideal.div 1 (Ideal.sqrt (Ideal.ofBits FTy.f32 1128267776#32)) = Attention.scale := by
  have hs : Ideal.sqrt ((192 : ℝ) : EReal) = ((Real.sqrt 192 : ℝ) : EReal) := by
    show (if (192 : ℝ) < 0 then (⊥ : EReal) else (Real.sqrt 192 : EReal)) = _
    rw [if_neg (by norm_num)]
  have h0 : Real.sqrt 192 ≠ 0 := (Real.sqrt_pos.mpr (by norm_num)).ne'
  rw [w192, hs, Ideal.div_coe h0, one_mul, one_div, Attention.scale]

/-- The kernel's factor, read by its name. -/
theorem ker_scale : Named.named (F := Ideal) (φ := .f32) Cert.KernelIdeal.κ "scale" 1033096506#32 = Attention.scale :=
  IdealRules.named_const.ideal_named_scalar _ _ _ _ rfl

end Cert.Words
-- ==== Proof.Finite.lean ====
/-
  The precondition, decoded: where it holds, every element of the queries and of the cache is a real number.
-/
module

public import proofs.«01_k».proof.Proof.Words
public import Idealize.ShloMosaic.Lib.ReduceAll

@[expose] public section

noncomputable section

namespace Cert.Pre_finite_inputs.Hand

open Cert.Pre_finite_inputs
open Idealize.ShloMosaic

/-- The shape relations the precondition's operations take. -/
instance facts : Cert.Pre_finite_inputs.Facts where
  bcast_S_S32x16x512 := by decide
  reducesTo_S32x16x512_S_d0_1_2 := by decide
  h_S_ := by decide
  bcast_S_S32x16x64 := by decide
  reducesTo_S32x16x64_S_d0_1_2 := by decide
  bcast_S_S32x4096x576 := by decide
  reducesTo_S32x4096x576_S_d0_1_2 := by decide

/-- A value whose absolute value compares below infinity is a real number. -/
theorem isReal_of_cmp {x : EReal} (h : Ideal.cmp .olt (max x (-x)) (Ideal.ofBits FTy.f32 0x7F800000#32) = 1#1) :
    Attention.IsReal x := by
  rw [Words.pos_inf] at h
  have hlt : max x (-x) < ⊤ := by
    by_contra hn
    simp [Ideal.cmp, hn] at h
  rw [max_lt_iff] at hlt
  refine Attention.fin_of_ne (fun e => ?_) hlt.1.ne
  rw [e] at hlt
  simp at hlt

theorem andi_one {x y : BitVec 1} (h : IntOp.andi x y = 1#1) : x = 1#1 ∧ y = 1#1 := by
  revert x y; decide

instance : Subsingleton S_.Idx := ⟨fun a b => funext fun i => i.elim0⟩

/-- Where the precondition holds the queries and the cache are finite. -/
theorem finite (x0 : Vec Ideal S32x16x512 .f32) (x1 : Vec Ideal S32x16x64 .f32) (x2 : Vec Ideal S32x4096x576 .f32)
    (x3 : Vec Ideal S16x512x128 .f32) (x4 : Vec Ideal S2048x4096 .f32) (h : fn (F := Ideal) x0 x1 x2 x3 x4 = fun _ => 1#1) :
    Attention.Finite x0 x1 x2 := by
  have e := congrFun h (Shape.Idx.first Facts.h_S_)
  dsimp only [fn] at e
  obtain ⟨e01, e2⟩ := andi_one e
  obtain ⟨e0, e1⟩ := andi_one e01
  exact ⟨fun i => isReal_of_cmp (Host.reduce_andi_all _ _ _ _ _ e0 i), fun i => isReal_of_cmp (Host.reduce_andi_all _ _ _ _ _ e1 i),
    fun i => isReal_of_cmp (Host.reduce_andi_all _ _ _ _ _ e2 i)⟩

end Cert.Pre_finite_inputs.Hand
-- ==== Proof.IdealRun.lean ====
/-
  What one grid point of `KernelIdeal` does, by its three cases: an attention point (below 16) stores the two latent
  rows of its batches, point 16 up-projects the latent rows and projects the first column block, every later point
  projects its column block.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.Pipeline.ValueKit.Basic
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-! ## The operands -/

/-- The two scratch buffers, whole: the latent rows `[32, 16, 512]` and the up-projected rows `[32, 2048]`. -/
abbrev scM8 : Memref sig .tc .vmem S32x16x512 .f32 := Memref.whole cc0_scratch0
abbrev scM9 : Memref sig .tc .vmem S32x2048 .bf16 := Memref.whole cc0_scratch1

/-- The place of a latent row inside the pair of batches its grid point computes. -/
def sub2 (j : S32x16x512.Idx) : S2x16x512.Idx
  | 0 => ⟨(j 0).val % 2, Nat.mod_lt _ (by decide)⟩
  | 1 => j 1
  | 2 => j 2

/-- The second condition of the body (the point is number 16), as the program computes it. -/
def cond2 (i : grid0.Coords) : BitVec 1 :=
  Scalar.cmpi .ne (Scalar.extui (Scalar.cmpi .eq (BitVec.ofNat 32 (i 0).val) 16#32) : BitVec 32) 0#32

theorem off_eq (i : grid0.Coords) : k0_off1 i = ![2 * (i 0).val, 0, 0] := by
  have h : ∀ n : Fin 24, (Scalar.indexCast (Scalar.muli (BitVec.ofNat 32 n.val) 2#32)).toNat = 2 * n.val := by decide
  unfold k0_off1; dsimp only; rw [h (i 0)]

/-! ## The three cases of the body -/

section Run

variable (c : Dev nD) (i : grid0.Coords)
    (arg1 : Memref sig .tc .vmem S2x16x512 .f32) (harg1 : arg1.IsWhole) (arg2 : Memref sig .tc .vmem S2x16x64 .f32) (harg2 : arg2.IsWhole)
    (arg3 : Memref sig .tc .vmem S2x512x4096 .f32) (harg3 : arg3.IsWhole) (arg4 : Memref sig .tc .vmem S2x64x4096 .f32) (harg4 : arg4.IsWhole)
    (arg5 : Memref sig .tc .vmem S16x512x128 .f32) (harg5 : arg5.IsWhole) (arg6 : Memref sig .tc .vmem S2048x512 .f32) (harg6 : arg6.IsWhole)
    (arg7 : Memref sig .tc .vmem S32x512 .f32) (harg7 : arg7.IsWhole)
    (x1 : Vec F S2x16x512 .f32) (x2 : Vec F S2x16x64 .f32) (x3 : Vec F S2x512x4096 .f32) (x4 : Vec F S2x64x4096 .f32)
    (x5 : Vec F S16x512x128 .f32) (x6 : Vec F S2048x512 .f32) (x7 : Vec F S32x512 .f32)
    (x8 : Vec F S32x16x512 .f32) (x9 : Vec F S32x2048 .bf16)

/-- An attention point: from the query, latent and rope blocks it leaves in the latent scratch, at its own two
    batches, the block's latent rows (`k0_pay1`), every other row as it was. -/
theorem runA (h1 : k0_cond1 i = 1#1) (h2 : cond2 i ≠ 1#1) (h3 : k0_cond3 i ≠ 1#1) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) scM8 fullShare x8
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ ∃ y8 : Vec F S32x16x512 .f32, ⌜∀ j : S32x16x512.Idx,
                ((j 0).val / 2 = (i 0).val → y8 j = k0_pay1 x1 x2 x3 x4 (sub2 j)) ∧ ((j 0).val / 2 ≠ (i 0).val → y8 j = x8 j)⌝
              ∗ owns (c : Thread nD τ) scM8 fullShare y8) -∗ K ⟨⟩))
      ⊢ wp frame (wpE (defs₀ (F := F)) Variants.none c none) Set.univ
          (cc0__mla_kernel i arg1 harg1 arg2 harg2 arg3 harg3 arg4 harg4 arg5 harg5 arg6 harg6 arg7 harg7 scM8 (Memref.isWhole_whole _) scM9 (Memref.isWhole_whole _)) K := by
  unfold cond2 at h2
  simp only [cc0__mla_kernel_eq_skeleton]; unfold cc0__mla_kernel_skel
  unfold owns
  iintro ⟨⟨%f1, %e1, H1⟩, ⟨%f2, %e2, H2⟩, ⟨%f3, %e3, H3⟩, ⟨%f4, %e4, H4⟩, ⟨%f8, %e8, H8⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  iexists _; isplitr; swap
  · iexists _; isplitr; swap; · iexact H8
    ipureintro; rfl
  ipureintro
  intro j
  have r1 := View.ld_unit_lit (e := .f32) inb_S2x16x512_S2x16x512_0_0_0 (View.read (Elt F) arg1.view f1) (by decide)
  have r2 := View.ld_unit_lit (e := .f32) inb_S2x16x64_S2x16x64_0_0_0 (View.read (Elt F) arg2.view f2) (by decide)
  have r3 := View.ld_unit_lit (e := .f32) inb_S2x512x4096_S2x512x4096_0_0_0 (View.read (Elt F) arg3.view f3) (by decide)
  have r4 := View.ld_unit_lit (e := .f32) inb_S2x64x4096_S2x64x4096_0_0_0 (View.read (Elt F) arg4.view f4) (by decide)
  rw [View.readAt_eq_ld, r1, View.readAt_eq_ld, r2, View.readAt_eq_ld, r3, View.readAt_eq_ld, r4, e1, e2, e3, e4]
  constructor
  · intro hj
    exact View.read_writes_cons_unit_of_mem _ _ _ _ _ j (sub2 j) (off_eq i) (fun a => by
      fin_cases a
      · show (j 0).val = 2 * (i 0).val + (j 0).val % 2; omega
      · show (j 1).val = 0 + (j 1).val; omega
      · show (j 2).val = 0 + (j 2).val; omega)
  · intro hj
    rw [View.read_writes_cons_unit_of_not_mem _ _ _ _ _ j (off_eq i) 0 (by
      show (j 0).val < 2 * (i 0).val ∨ 2 * (i 0).val + 2 ≤ (j 0).val; omega), View.writes_nil, e8]

/-- Point 16: from the latent scratch, the up-projection weights and its column block of the output weights it leaves
    the up-projected rows (`k0_pay2`) in the second scratch and their projection (`k0_pay3`) in the output block. -/
theorem runB (h1 : k0_cond1 i ≠ 1#1) (h2 : cond2 i = 1#1) (h3 : k0_cond3 i = 1#1) (K : PUnit → sProp 𝕄) :
    iprop(owns (c : Thread nD τ) arg5 fullShare x5 ∗ owns (c : Thread nD τ) arg6 fullShare x6 ∗ owns (c : Thread nD τ) arg7 fullShare x7
        ∗ owns (c : Thread nD τ) scM8 fullShare x8 ∗ owns (c : Thread nD τ) scM9 fullShare x9
        ∗ (iprop(owns (c : Thread nD τ) arg5 fullShare x5 ∗ owns (c : Thread nD τ) arg6 fullShare x6
            ∗ owns (c : Thread nD τ) arg7 fullShare (k0_pay3 (k0_pay2 x8 x5) x6)
            ∗ owns (c : Thread nD τ) scM8 fullShare x8 ∗ owns (c : Thread nD τ) scM9 fullShare (k0_pay2 x8 x5)) -∗ K ⟨⟩))
      ⊢ wp frame (wpE (defs₀ (F := F)) Variants.none c none) Set.univ
          (cc0__mla_kernel i arg1 harg1 arg2 harg2 arg3 harg3 arg4 harg4 arg5 harg5 arg6 harg6 arg7 harg7 scM8 (Memref.isWhole_whole _) scM9 (Memref.isWhole_whole _)) K := by
  unfold cond2 at h2
  simp only [cc0__mla_kernel_eq_skeleton]; unfold cc0__mla_kernel_skel
  unfold owns
  iintro ⟨⟨%f5, %e5, H5⟩, ⟨%f6, %e6, H6⟩, ⟨%f7, %e7, H7⟩, ⟨%f8, %e8, H8⟩, ⟨%f9, %e9, H9⟩, Hk⟩
  sl_exec
  sl_step
  have r5 := View.ld_unit_lit (e := .f32) inb_S16x512x128_S16x512x128_0_0_0 (View.read (Elt F) arg5.view f5) (by decide)
  have r6 := View.ld_unit_lit (e := .f32) inb_S2048x512_S2048x512_0_0 (View.read (Elt F) arg6.view f6) (by decide)
  have r8 := View.ld_unit_lit (e := .f32) inb_S32x16x512_S32x16x512_0_0_0 (View.read (Elt F) scM8.view f8) (by decide)
  iapply Hk
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro
    unfold runB.sl.v9 runB.sl.H9_1
    rw [View.read_writes_full, View.readCov_unit_lit scM9.view inb_S32x2048_S32x2048_0_0 _ (by decide),
      View.readAt_eq_ld scM8.view, r8, View.readAt_eq_ld arg5.view, r5, View.readAt_eq_ld arg6.view, r6, e5, e6, e8]
  isplitl [H8]
  · iexists _; isplitr; swap; · iexact H8
    ipureintro; exact e8
  iexists _; isplitr; swap; · iexact H9
  ipureintro
  unfold runB.sl.H9_1
  rw [View.read_writes_full, View.readAt_eq_ld scM8.view, r8, View.readAt_eq_ld arg5.view, r5, e5, e8]

/-- A later point: from the up-projected rows and its column block of the output weights it leaves their projection in
    the output block. -/
theorem runC (h1 : k0_cond1 i ≠ 1#1) (h2 : cond2 i ≠ 1#1) (h3 : k0_cond3 i = 1#1) (K : PUnit → sProp 𝕄) :
    iprop(owns (c : Thread nD τ) arg6 fullShare x6 ∗ owns (c : Thread nD τ) arg7 fullShare x7 ∗ owns (c : Thread nD τ) scM9 fullShare x9
        ∗ (iprop(owns (c : Thread nD τ) arg6 fullShare x6 ∗ owns (c : Thread nD τ) arg7 fullShare (k0_pay3 x9 x6)
            ∗ owns (c : Thread nD τ) scM9 fullShare x9) -∗ K ⟨⟩))
      ⊢ wp frame (wpE (defs₀ (F := F)) Variants.none c none) Set.univ
          (cc0__mla_kernel i arg1 harg1 arg2 harg2 arg3 harg3 arg4 harg4 arg5 harg5 arg6 harg6 arg7 harg7 scM8 (Memref.isWhole_whole _) scM9 (Memref.isWhole_whole _)) K := by
  unfold cond2 at h2
  simp only [cc0__mla_kernel_eq_skeleton]; unfold cc0__mla_kernel_skel
  unfold owns
  iintro ⟨⟨%f6, %e6, H6⟩, ⟨%f7, %e7, H7⟩, ⟨%f9, %e9, H9⟩, Hk⟩
  sl_exec
  sl_step
  iapply Hk
  isplitl [H6]
  · iexists _; isplitr; swap; · iexact H6
    ipureintro; exact e6
  isplitl [H7]
  · iexists _; isplitr; swap; · iexact H7
    ipureintro
    have r6 := View.ld_unit_lit (e := .f32) inb_S2048x512_S2048x512_0_0 (View.read (Elt F) arg6.view f6) (by decide)
    have r9 := View.ld_unit_lit (e := .bf16) inb_S32x2048_S32x2048_0_0 (View.read (Elt F) scM9.view f9) (by decide)
    rw [View.read_writes_full, View.readAt_eq_ld, r9, View.readAt_eq_ld, r6, e6, e9]
  iexists _; isplitr; swap; · iexact H9
  ipureintro; exact e9

end Run

end Cert.KernelIdeal.Hand
end
-- ==== Proof.IdealBlocks.lean ====
/-
  What the idealized kernel's three stages compute from the blocks they are given, at an index: a latent row from a
  query, a latent block and a rope block; an up-projected row; a row of an output block.
-/
module

public import proofs.«01_k».proof.Proof.Words
public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.Tactic

/-- The scores of a row of a block. -/
def blockScore (x0 : Vec Ideal S2x16x512 .f32) (x1 : Vec Ideal S2x16x64 .f32) (x2 : Vec Ideal S2x512x4096 .f32)
    (x3 : Vec Ideal S2x64x4096 .f32) (b : Fin 2) (h : Fin 16) (s : Fin 4096) : EReal :=
  (∑ k : Fin 512, x0 (ix3 b h k) * x2 (ix3 b k s) + ∑ k : Fin 64, x1 (ix3 b h k) * x3 (ix3 b k s)) * Attention.scale

/-- A latent row of a block. -/
theorem pay1_apply (x0 : Vec Ideal S2x16x512 .f32) (x1 : Vec Ideal S2x16x64 .f32) (x2 : Vec Ideal S2x512x4096 .f32)
    (x3 : Vec Ideal S2x64x4096 .f32) (b : Fin 2) (h : Fin 16) (c : Fin 512) :
    k0_pay1 (F := Ideal) x0 x1 x2 x3 (ix3 b h c)
      = Ideal.div (∑ s, Attention.weight (blockScore x0 x1 x2 x3 b h) s * x2 (ix3 b c s))
          (∑ s, Attention.weight (blockScore x0 x1 x2 x3 b h) s) := by
  pointwise [k0_pay1]
  rw [Words.neg_inf, Words.ker_scale]
  rfl

/-- An up-projected row. -/
theorem pay2_apply (x : Vec Ideal S32x16x512 .f32) (w : Vec Ideal S16x512x128 .f32) (b : Fin 32) (j : Fin 2048) :
    k0_pay2 (F := Ideal) x w (ix2 b j)
      = ∑ k : Fin 512, x (ix3 b ⟨j.val / 128, by omega⟩ k) * w (ix3 ⟨j.val / 128, by omega⟩ k ⟨j.val % 128, by omega⟩) := by
  pointwise [k0_pay2]
  try rfl

/-- A row of an output block. -/
theorem pay3_apply (x : Vec Ideal S32x2048 .bf16) (w : Vec Ideal S2048x512 .f32) (b : Fin 32) (j : Fin 512) :
    k0_pay3 (F := Ideal) x w (ix2 b j) = ∑ k : Fin 2048, x (ix2 b k) * w (ix2 k j) := by
  pointwise [k0_pay3]
  try rfl

end Cert.KernelIdeal.Hand
-- ==== Proof.IdealFrame.lean ====
/-
  `KernelIdeal` runs: the 24 points of its grid joined. The invariant before point `n` says that the latent scratch holds
  the latent rows of the batches below `2 n`, and from point 17 on that the second scratch holds the up-projected rows.
-/
module

public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the two scratch buffers come to hold -/

/-- The grid point that computes a latent row: one point per two batches. -/
def ptOf (j : S32x16x512.Idx) : Fin cfg0.N := ⟨(j 0).val / 2, by
  have h : (j 0).val < 32 := (j 0).isLt
  have hN : cfg0.N = 24 := N_0
  omega⟩

/-- The latent rows point `t` computes, from its query, latent and rope blocks. -/
def pair (c : Dev nD) (t : Fin cfg0.N) : Vec F S2x16x512 .f32 :=
  k0_pay1 (F := F) (iblk m c 0 t) (iblk m c 1 t) (X0_2 m c t) (iblk m c 3 t)

/-- All latent rows. -/
def OL (c : Dev nD) : Vec F S32x16x512 .f32 := fun j => pair m c (ptOf j) (sub2 j)

/-- The weights of the up-projection, as point 16 finds them. -/
def pt16 : Fin cfg0.N := ⟨16, by have hN : cfg0.N = 24 := N_0; omega⟩

/-- The up-projected rows. -/
def OS (c : Dev nD) : Vec F S32x2048 .bf16 := k0_pay2 (F := F) (OL m c) (iblk m c 4 pt16)

/-- The column block of the result that point `t` stores. -/
def outBlk (c : Dev nD) (t : Fin cfg0.N) : Vec F S32x512 .f32 := k0_pay3 (F := F) (OS m c) (iblk m c 5 t)

/-! ## The invariant and the proof data -/

/-- What the scratch buffers are known to hold before point `n`. -/
def Known (c : Dev nD) (n : ℕ) (x8 : Vec F S32x16x512 .f32) (x9 : Vec F S32x2048 .bf16) : Prop :=
  (∀ j : S32x16x512.Idx, (j 0).val < 2 * n → x8 j = OL m c j) ∧ (17 ≤ n → x9 = OS m c)

/-- The invariant before point `n`: the two scratch buffers at contents of which that is known, and the generator
    register at some state. -/
def Phi (c : Dev nD) (n : ℕ) : sProp 𝕄 :=
  iprop(∃ x8 : Vec F S32x16x512 .f32, ∃ x9 : Vec F S32x2048 .bf16, ⌜Known m c n x8 x9⌝
    ∗ owns (c : Thread nD τ) scM8 fullShare x8 ∗ owns (c : Thread nD τ) scM9 fullShare x9 ∗ ∃ r, prngReg c r)

/-- The proof data: each input window keeps its block, the output's window holds the point's column block. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => X0_2 m c t
    | 3 => fun t => iblk m c 3 t
    | 4 => fun t => iblk m c 4 t
    | 5 => fun t => iblk m c 5 t
    | 6 => fun t => outBlk m c t
    | ⟨_ + 7, h⟩ => absurd h (Nat.not_lt.2 (Nat.le_add_left _ _))
  Φ t := Phi m c t.val
  q := Pipeline.shareOf spec0
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = X0_2 m c t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d

/-! ## The conditions of the body over the grid -/

theorem cond1_iff : ∀ t : Fin cfg0.N, k0_cond1 (grid0.coords t) = 1#1 ↔ t.val < 16 := by decide +kernel
theorem cond2_iff : ∀ t : Fin cfg0.N, cond2 (grid0.coords t) = 1#1 ↔ t.val = 16 := by decide +kernel
theorem cond3_iff : ∀ t : Fin cfg0.N, k0_cond3 (grid0.coords t) = 1#1 ↔ 16 ≤ t.val := by decide +kernel
theorem coord_val : ∀ t : Fin cfg0.N, ((grid0.coords t) 0).val = t.val := by decide +kernel
theorem flush6 : ∀ t : Fin cfg0.N, (cfg0.win 6).flush t = decide (16 ≤ t.val) := by decide +kernel
theorem idle6 (t : Fin cfg0.N) : cfg0.idle 6 (cfg0.grid.coords t) = decide (t.val < 16) := by
  have h := cond3_iff t
  show (!(k0_cond3 (grid0.coords t) == 1#1)) = _
  by_cases ht : t.val < 16
  · have : ¬ k0_cond3 (grid0.coords t) = 1#1 := fun e => by have := h.1 e; omega
    simp [this, ht]
  · have : k0_cond3 (grid0.coords t) = 1#1 := h.2 (by omega)
    simp [this, ht]

/-! ## The body at a point -/

/-- What the body is called with at point `t`. -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop(Phi m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (X0_2 m c t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (dats m 0 c).leavesExact 6 t)

/-- After an attention point the rows of its two batches are known too. -/
theorem known_step (c : Dev nD) (t : Fin cfg0.N) (ht : t.val < 16) (x8 y8 : Vec F S32x16x512 .f32) (x9 : Vec F S32x2048 .bf16)
    (hK : Known m c t.val x8 x9)
    (hy : ∀ j : S32x16x512.Idx, ((j 0).val / 2 = ((grid0.coords t) 0).val → y8 j = pair m c t (sub2 j))
      ∧ ((j 0).val / 2 ≠ ((grid0.coords t) 0).val → y8 j = x8 j)) :
    Known m c (t.val + 1) y8 x9 := by
  refine ⟨fun j hj => ?_, fun h => by omega⟩
  have hc := coord_val t
  by_cases h : (j 0).val / 2 = t.val
  · rw [(hy j).1 (h.trans hc.symm)]
    have e : ptOf j = t := Fin.ext h
    unfold OL; rw [e]
  · rw [(hy j).2 (fun e => h (e.trans hc))]
    exact hK.1 j (by omega)

/-- From point 16 on every latent row is known. -/
theorem known_all (c : Dev nD) (n : ℕ) (hn : 16 ≤ n) (x8 : Vec F S32x16x512 .f32) (x9 : Vec F S32x2048 .bf16)
    (hK : Known m c n x8 x9) : x8 = OL m c := funext fun j => hK.1 j (by
  have h : (j 0).val < 32 := (j 0).isLt
  omega)

theorem iblk4_eq (c : Dev nD) (t : Fin cfg0.N) (ht : t.val = 16) : iblk m c 4 t = iblk m c 4 pt16 := by
  obtain rfl : t = pt16 := Fin.ext ht
  rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Phi
  simp only [before0, before1, before2, before3, before4, before5]
  rw [show (dats m 0 c).owesAt () t.succ = (dats m 0 c).owesAt () t.castSucc from rfl]
  iintro ⟨⟨%x8, %x9, %hK, HS8, HS9, Hg⟩, HO, ⟨%d0, H0⟩, ⟨%d1, H1⟩, ⟨%d2, H2⟩, ⟨%d3, H3⟩, ⟨%d4, H4⟩, ⟨%d5, H5⟩, ⟨%d6, H6⟩⟩
  by_cases ht : t.val < 16
  · iapply (runA c (grid0.coords t) _ _ _ _ _ _ _ _ _ _ _ _ _ _ (iblk m c 0 t) (iblk m c 1 t) (X0_2 m c t) (iblk m c 3 t) x8
      ((cond1_iff t).2 ht) (fun e => by have := (cond2_iff t).1 e; omega) (fun e => by have := (cond3_iff t).1 e; omega) _)
    isplitl [H0]; · iexact H0
    isplitl [H1]; · iexact H1
    isplitl [H2]; · iexact H2
    isplitl [H3]; · iexact H3
    isplitl [HS8]; · iexact HS8
    iintro ⟨H0, H1, H2, H3, ⟨%y8, %hy, HS8⟩⟩
    isplitl [HS8 HS9 Hg]
    · iexists y8; iexists x9
      isplitr; · ipureintro; exact known_step m c t ht x8 y8 x9 hK hy
      isplitl [HS8]; · iexact HS8
      isplitl [HS9]; · iexact HS9
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    rw [(dats m 0 c).leavesExact_idle 6 t (by rw [idle6]; exact decide_eq_true ht) (by rw [flush6]; exact decide_eq_false (by omega))]
    iexists d6; iexact H6
  · obtain rfl : x8 = OL m c := known_all m c t.val (by omega) x8 x9 hK
    have hl : (dats m 0 c).leavesExact 6 t = owns (c : Thread nD τ) (st0_6 t) fullShare (outBlk m c t) := by
      have hi : cfg0.idle 6 (cfg0.grid.coords t) = false := by rw [idle6]; exact decide_eq_false ht
      unfold Dat.leavesExact; rw [hi]; dsimp only [dats]
    rw [hl]
    by_cases h16 : t.val = 16
    · iapply (runB c (grid0.coords t) _ _ _ _ _ _ _ _ _ _ _ _ _ _ (iblk m c 4 t) (iblk m c 5 t) ((dats m 0 c).before 6 t d6) (OL m c) x9
        (fun e => by have := (cond1_iff t).1 e; omega) ((cond2_iff t).2 h16) ((cond3_iff t).2 (by omega)) _)
      isplitl [H4]; · iexact H4
      isplitl [H5]; · iexact H5
      isplitl [H6]; · iexact H6
      isplitl [HS8]; · iexact HS8
      isplitl [HS9]; · iexact HS9
      have hos : k0_pay2 (F := F) (OL m c) (iblk m c 4 t) = OS m c := by unfold OS; rw [iblk4_eq m c t h16]
      rw [hos]
      iintro ⟨H4, H5, H6, HS8, HS9⟩
      isplitl [HS8 HS9 Hg]
      · iexists OL m c; iexists OS m c
        isplitr; · ipureintro; exact ⟨fun _ _ => rfl, fun _ => rfl⟩
        isplitl [HS8]; · iexact HS8
        isplitl [HS9]; · iexact HS9
        iexact Hg
      isplitl [HO]; · iexact HO
      isplitl [H0]; · iexact H0
      isplitl [H1]; · iexact H1
      isplitl [H2]; · iexact H2
      isplitl [H3]; · iexact H3
      isplitl [H4]; · iexact H4
      isplitl [H5]; · iexact H5
      iexact H6
    · obtain rfl : x9 = OS m c := hK.2 (by omega)
      iapply (runC c (grid0.coords t) _ _ _ _ _ _ _ _ _ _ _ _ _ _ (iblk m c 5 t) ((dats m 0 c).before 6 t d6) (OS m c)
        (fun e => by have := (cond1_iff t).1 e; omega) (fun e => h16 ((cond2_iff t).1 e)) ((cond3_iff t).2 (by omega)) _)
      isplitl [H5]; · iexact H5
      isplitl [H6]; · iexact H6
      isplitl [HS9]; · iexact HS9
      iintro ⟨H5, H6, HS9⟩
      isplitl [HS8 HS9 Hg]
      · iexists OL m c; iexists OS m c
        isplitr; · ipureintro; exact ⟨fun _ _ => rfl, fun _ => rfl⟩
        isplitl [HS8]; · iexact HS8
        isplitl [HS9]; · iexact HS9
        iexact Hg
      isplitl [HO]; · iexact HO
      isplitl [H0]; · iexact H0
      isplitl [H1]; · iexact H1
      isplitl [H2]; · iexact H2
      isplitl [H3]; · iexact H3
      isplitl [H4]; · iexact H4
      isplitl [H5]; · iexact H5
      iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the pipeline: the triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- Before the first point nothing is known of the scratch buffers, -/
theorem hin (c : Dev nD) : (Pipeline.ΦA spec0 c : sProp 𝕄) ⊢ (dats m 0 c).Φ 0 := by
  show _ ⊢ Phi m c 0
  unfold Pipeline.ΦA Phi
  rw [scopedRest0_eq]
  simp only [scM8, scM9, owns_whole]
  iintro ⟨⟨⟨%f8, H8⟩, ⟨%f9, H9⟩⟩, Hg⟩
  iexists f8; iexists f9
  isplitr; · ipureintro; exact ⟨fun j h => absurd h (by omega), fun h => absurd h (by omega)⟩
  isplitl [H8]; · iexact H8
  isplitl [H9]; · iexact H9
  iexact Hg

/-- and after the last what is known is forgotten. -/
theorem hout (c : Dev nD) : (dats m 0 c).Φ (Fin.last cfg0.N) ⊢ (Pipeline.ΦA spec0 c : sProp 𝕄) := by
  show Phi m c cfg0.N ⊢ _
  unfold Pipeline.ΦA Phi
  rw [scopedRest0_eq]
  simp only [scM8, scM9, owns_whole]
  iintro ⟨%f8, %f9, -, H8, H9, Hg⟩
  isplitl [H8 H9]
  · isplitl [H8]
    · iexists f8; iexact H8
    iexists f9; iexact H9
  iexact Hg

set_option backward.isDefEq.respectTransparency.types false in
/-- Every fair run of the program ends, with every array holding what the proof data say and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := hin m) (hout := hout m) (hQ' := fun _ h => h)

/-- The arguments are left as they were. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c)))⟩

end Cert.KernelIdeal.Hand
end
-- ==== Proof.IdealReads.lean ====
/-
  The blocks the idealized kernel's windows read, at an index, as elements of the argument arrays. The cache reaches the
  kernel transposed, and two windows read it: one its latent rows, one its rotary rows.
-/
module

public import proofs.«01_k».proof.Proof.IdealFrame
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The index of every window's block at a point of the attention half. -/
theorem index_lo : ∀ t : Fin cfg0.N, t.val < 16 → win0_0.index t = ![t.val, 0, 0] ∧ win0_1.index t = ![t.val, 0, 0]
    ∧ win0_2.index t = ![t.val, 0, 0] ∧ win0_3.index t = ![t.val, 8, 0] := by decide +kernel

/-- The index of every window's block at a point of the projection half. -/
theorem index_hi : ∀ t : Fin cfg0.N, 16 ≤ t.val → win0_4.index t = ![0, 0, 0] ∧ win0_5.index t = ![0, t.val - 16]
    ∧ win0_6.index t = ![0, t.val - 16] := by decide +kernel

/-- The array the two cache windows read is the cache with its last two axes exchanged. -/
theorem cache_apply (c : Dev nD) (b : Fin 32) (r : Fin 576) (s : Fin 4096) :
    (V m c main_call0_v0 : Vec Ideal S32x576x4096 .f32) (ix3 b r s)
      = (m ((c : Thread nD τ).loc main_arg2) : Vec Ideal S32x4096x576 .f32) (ix3 b s r) := by
  entry_read
  show transpose S32x576x4096 [0, 2, 1] (m ((c : Thread nD τ).loc main_arg2) : Vec Ideal S32x4096x576 .f32)
    transposes_S32x4096x576_S32x576x4096_0_2_1 (ix3 b r s) = _
  pointwise

theorem read0 (c : Dev nD) (t : Fin cfg0.N) (ht : t.val < 16) (b : Fin 2) (h : Fin 16) (k : Fin 512) :
    (iblk m c 0 t : Vec Ideal S2x16x512 .f32) (ix3 b h k)
      = (m ((c : Thread nD τ).loc main_arg0) : Vec Ideal S32x16x512 .f32) (ix3 ⟨2 * t.val + b.val, by omega⟩ h k) := by
  blk_ext [iblk, V_main_arg0, (index_lo t ht).1]

theorem read1 (c : Dev nD) (t : Fin cfg0.N) (ht : t.val < 16) (b : Fin 2) (h : Fin 16) (k : Fin 64) :
    (iblk m c 1 t : Vec Ideal S2x16x64 .f32) (ix3 b h k)
      = (m ((c : Thread nD τ).loc main_arg1) : Vec Ideal S32x16x64 .f32) (ix3 ⟨2 * t.val + b.val, by omega⟩ h k) := by
  blk_ext [iblk, V_main_arg1, (index_lo t ht).2.1]

theorem read2 (c : Dev nD) (t : Fin cfg0.N) (ht : t.val < 16) (b : Fin 2) (k : Fin 512) (s : Fin 4096) :
    (X0_2 m c t : Vec Ideal S2x512x4096 .f32) (ix3 b k s)
      = (m ((c : Thread nD τ).loc main_arg2) : Vec Ideal S32x4096x576 .f32) (ix3 ⟨2 * t.val + b.val, by omega⟩ s ⟨k.val, by omega⟩) := by
  unfold X0_2 Pipeline.Window.fill
  rw [dif_pos (moved0_2 t _)]
  refine Eq.trans ?_ (cache_apply m c ⟨2 * t.val + b.val, by omega⟩ ⟨k.val, by omega⟩ s)
  blk_ext [iblk, (index_lo t ht).2.2.1]

theorem read3 (c : Dev nD) (t : Fin cfg0.N) (ht : t.val < 16) (b : Fin 2) (k : Fin 64) (s : Fin 4096) :
    (iblk m c 3 t : Vec Ideal S2x64x4096 .f32) (ix3 b k s)
      = (m ((c : Thread nD τ).loc main_arg2) : Vec Ideal S32x4096x576 .f32) (ix3 ⟨2 * t.val + b.val, by omega⟩ s ⟨512 + k.val, by omega⟩) := by
  refine Eq.trans ?_ (cache_apply m c ⟨2 * t.val + b.val, by omega⟩ ⟨512 + k.val, by omega⟩ s)
  blk_ext [iblk, (index_lo t ht).2.2.2]

theorem read4 (c : Dev nD) (t : Fin cfg0.N) (ht : 16 ≤ t.val) (b : Fin 16) (k : Fin 512) (j : Fin 128) :
    (iblk m c 4 t : Vec Ideal S16x512x128 .f32) (ix3 b k j)
      = (m ((c : Thread nD τ).loc main_arg3) : Vec Ideal S16x512x128 .f32) (ix3 b k j) := by
  blk_ext [iblk, V_main_arg3, (index_hi t ht).1]

theorem read5 (c : Dev nD) (t : Fin cfg0.N) (ht : 16 ≤ t.val) (k : Fin 2048) (j : Fin 512) :
    (iblk m c 5 t : Vec Ideal S2048x512 .f32) (ix2 k j)
      = (m ((c : Thread nD τ).loc main_arg4) : Vec Ideal S2048x4096 .f32) (ix2 k ⟨(t.val - 16) * 512 + j.val, by
          have := t.isLt; have hN : cfg0.N = 24 := N_0; omega⟩) := by
  blk_ext [iblk, V_main_arg4, (index_hi t ht).2.1]

end Cert.KernelIdeal.Hand
-- ==== Proof.IdealArray.lean ====
/-
  What the idealized kernel leaves in its result: the latent scratch holds the latent rows of the problem, the second
  scratch the up-projected rows, and the eight output blocks make up the output.
-/
module

public import proofs.«01_k».proof.Proof.IdealBlocks
public import proofs.«01_k».proof.Proof.IdealReads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-! ## The arguments as arrays -/

def argQ (c : Dev nD) : Vec Ideal S32x16x512 .f32 := m ((c : Thread nD τ).loc main_arg0)
def argP (c : Dev nD) : Vec Ideal S32x16x64 .f32 := m ((c : Thread nD τ).loc main_arg1)
def argKV (c : Dev nD) : Vec Ideal S32x4096x576 .f32 := m ((c : Thread nD τ).loc main_arg2)
def argUV (c : Dev nD) : Vec Ideal S16x512x128 .f32 := m ((c : Thread nD τ).loc main_arg3)
def argWO (c : Dev nD) : Vec Ideal S2048x4096 .f32 := m ((c : Thread nD τ).loc main_arg4)

/-! ## The scratch buffers -/

/-- A row of a block's scores is a row of the problem's. -/
theorem blockScore_eq (c : Dev nD) (t : Fin cfg0.N) (ht : t.val < 16) (b : Fin 2) (h : Fin 16) :
    blockScore (iblk m c 0 t) (iblk m c 1 t) (X0_2 m c t) (iblk m c 3 t) b h
      = Attention.score (argQ m c) (argP m c) (argKV m c) ⟨2 * t.val + b.val, by omega⟩ h := by
  funext s
  refine congrArg (· * Attention.scale) (congrArg₂ (· + ·) ?_ ?_)
  · exact Finset.sum_congr rfl fun k _ => congrArg₂ (· * ·) (read0 m c t ht b h k) (read2 m c t ht b k s)
  · exact Finset.sum_congr rfl fun k _ => congrArg₂ (· * ·) (read1 m c t ht b h k) (read3 m c t ht b k s)

/-- The latent rows a point of the attention half computes are the problem's. -/
theorem pair_apply (c : Dev nD) (t : Fin cfg0.N) (ht : t.val < 16) (b : Fin 2) (h : Fin 16) (k : Fin 512) :
    pair m c t (ix3 b h k)
      = Attention.latent (argQ m c) (argP m c) (argKV m c) ⟨2 * t.val + b.val, by omega⟩ h k := by
  unfold pair Attention.latent
  rw [pay1_apply, blockScore_eq m c t ht]
  exact congrArg (Ideal.div · _) (Finset.sum_congr rfl fun s _ => congrArg (_ * ·) (read2 m c t ht b k s))

/-- The latent scratch holds the problem's latent rows. -/
theorem OL_apply (c : Dev nD) (b : Fin 32) (h : Fin 16) (k : Fin 512) :
    OL m c (ix3 b h k) = Attention.latent (argQ m c) (argP m c) (argKV m c) b h k := by
  have hb : b.val / 2 < 16 := by omega
  have e := pair_apply m c (ptOf (ix3 b h k)) hb ⟨b.val % 2, by omega⟩ h k
  have hb' : (⟨2 * (ptOf (ix3 b h k)).val + b.val % 2, by have : (ptOf (ix3 b h k)).val = b.val / 2 := rfl; omega⟩ : Fin 32) = b :=
    Fin.ext (by have : (ptOf (ix3 b h k)).val = b.val / 2 := rfl; show 2 * _ + _ = _; omega)
  refine Eq.trans ?_ (e.trans (congrArg (Attention.latent _ _ _ · h k) hb'))
  unfold OL
  refine congrArg (pair m c _) (funext fun a => ?_)
  match a with
  | 0 => rfl
  | 1 => rfl
  | 2 => rfl

/-- The second scratch holds the problem's up-projected rows. -/
theorem OS_apply (c : Dev nD) (b : Fin 32) (j : Fin 2048) :
    OS m c (ix2 b j) = Attention.up (argQ m c) (argP m c) (argKV m c) (argUV m c) b j := by
  unfold OS Attention.up
  rw [pay2_apply]
  exact Finset.sum_congr rfl fun k _ => congrArg₂ (· * ·) (OL_apply m c b _ k) (read4 m c pt16 (le_refl 16) _ k _)

/-- The column block a point of the projection half stores is the problem's. -/
theorem outBlk_apply (c : Dev nD) (t : Fin cfg0.N) (ht : 16 ≤ t.val) (b : Fin 32) (j : Fin 512) :
    outBlk m c t (ix2 b j)
      = Attention.out (argQ m c) (argP m c) (argKV m c) (argUV m c) (argWO m c) b ⟨(t.val - 16) * 512 + j.val, by
          have := t.isLt; have hN : cfg0.N = 24 := N_0; omega⟩ := by
  unfold outBlk Attention.out
  rw [pay3_apply]
  exact Finset.sum_congr rfl fun k _ => congrArg₂ (· * ·) (OS_apply m c b k) (read5 m c t ht k j)

/-! ## The result -/

/-- The output as an array. -/
def result (c : Dev nD) : Vec Ideal S32x4096 .f32 := fun i =>
  Attention.out (argQ m c) (argP m c) (argKV m c) (argUV m c) (argWO m c) (i 0) (i 1)

theorem after6 (c : Dev nD) (t : Fin cfg0.N) : (dats m 0 c).after 6 t = outBlk m c t := by dsimp only [dats]

/-- After the run the result array holds the output. -/
theorem result_eq (c : Dev nD) : (dats m 0 c).arrAt 6 cfg0.N = result m c := by
  refine (dats m 0 c).arrAt_eq_of_covers 6 _ (by decide +kernel) fun t hf y => ?_
  rw [flush6 t, decide_eq_true_eq] at hf
  rw [after6]
  have e := outBlk_apply m c t hf (y 0) (y 1)
  refine Eq.trans ?_ (e.trans ?_)
  · refine congrArg (outBlk m c t) (funext fun a => ?_)
    match a with
    | 0 => rfl
    | 1 => rfl
  · unfold result
    refine congrArg₂ (Attention.out _ _ _ _ _) ?_ ?_
    · apply Fin.ext
      blk_simp [(index_hi t hf).2.2]
    · apply Fin.ext
      blk_simp [(index_hi t hf).2.2]

end Cert.KernelIdeal.Hand
-- ==== Proof.RefRun.lean ====
module

public import proofs.«01_k».proof.Proof.Gen.ReferenceIdeal.Run
public import proofs.«01_k».proof.Proof.Gen.ReferenceIdeal.Read
-- ==== Proof.RefValue.lean ====
/-
  What the reference computes, at an index: its scores, its softmax-weighted latent rows, its output. On finite queries
  and a finite cache they are the problem's, the division taken before the sum or after it.
-/
module

public import proofs.«01_k».proof.Proof.Words
public import proofs.«01_k».proof.Proof.RefRun

@[expose] public section

set_option maxRecDepth 16384

noncomputable section

namespace Cert.ReferenceIdeal.Hand

open Cert.ReferenceIdeal Cert.ReferenceIdeal.Read
open Idealize.ShloMosaic Idealize.ShloMosaic.Tactic

variable (x0 : Vec Ideal S32x16x512 .f32) (x1 : Vec Ideal S32x16x64 .f32) (x2 : Vec Ideal S32x4096x576 .f32)
  (x3 : Vec Ideal S16x512x128 .f32) (x4 : Vec Ideal S2048x4096 .f32)

/-- The reference's scores are the problem's. -/
theorem score_apply (b : Fin 32) (h : Fin 16) (s : Fin 4096) :
    val_main_v5 (F := Ideal) x0 x1 x2 (ix3 b h s) = Attention.score x0 x1 x2 b h s := by
  pointwise [val_main_v5, val_main_v4, val_main_v3, val_main_v2, val_main_v1, val_main_v0, val_main_cst, val_main_cst_0]
  rw [Words.ref_scale]
  rfl

/-- The reference's latent rows: the cache's latent rows weighted by the softmax of the scores. -/
theorem latent_apply (b : Fin 32) (h : Fin 16) (c : Fin 512) :
    val_main_v18 (F := Ideal) x0 x1 x2 (ix3 b h c)
      = ∑ s, Ideal.div (Attention.weight (Attention.score x0 x1 x2 b h) s)
          (∑ s', Attention.weight (Attention.score x0 x1 x2 b h) s') * x2 (ix3 b s ⟨c.val, by omega⟩) := by
  pointwise [val_main_v18, val_main_v17, val_main_v16, val_main_v15, val_main_v14, val_main_v13, val_main_v12, val_main_v11,
    val_main_v10, val_main_v9, val_main_v8, val_main_v7, val_main_v6, val_main_cst_1, val_main_cst_2, val_main_cst_3]
  simp only [score_apply, Words.neg_inf, max_bot_left]
  rfl

/-- The reference's output on finite queries and a finite cache. -/
theorem out_apply (hf : Attention.Finite x0 x1 x2) (b : Fin 32) (j : Fin 4096) :
    val_main_v22 (F := Ideal) x0 x1 x2 x3 x4 (ix2 b j) = Attention.out x0 x1 x2 x3 x4 b j := by
  pointwise [val_main_v22, val_main_v21, val_main_v20, val_main_v19]
  unfold Attention.out Attention.up
  refine Finset.sum_congr rfl fun k _ => congrArg (· * _) (Finset.sum_congr rfl fun l _ => ?_)
  rw [latent_apply, ← Attention.latent_eq x0 x1 x2 hf, mul_comm]

end Cert.ReferenceIdeal.Hand
-- ==== Proof.Equal.lean ====
/-
  The two results are one array: from memories that agree on the arguments, with finite queries and a finite cache, the
  reference's composed value is the array the idealized kernel leaves.
-/
module

public import proofs.«01_k».proof.Proof.IdealArray
public import proofs.«01_k».proof.Proof.RefValue

@[expose] public section

noncomputable section

namespace Cert.Equal

open Idealize.ShloMosaic Idealize.ShloMosaic.TcCoe

/-- The reference's value of the kernel's arguments is the kernel's result. -/
theorem value_eq (m : (ℓ : Loc Cert.KernelIdeal.nD Cert.KernelIdeal.τ Cert.KernelIdeal.sig) → Buf (Elt Ideal) ℓ)
    (c : Dev Cert.KernelIdeal.nD)
    (hf : Attention.Finite (KernelIdeal.Hand.argQ m c) (KernelIdeal.Hand.argP m c) (KernelIdeal.Hand.argKV m c)) :
    Cert.ReferenceIdeal.Read.val_main_v22 (F := Ideal) (KernelIdeal.Hand.argQ m c) (KernelIdeal.Hand.argP m c)
        (KernelIdeal.Hand.argKV m c) (KernelIdeal.Hand.argUV m c) (KernelIdeal.Hand.argWO m c)
      = KernelIdeal.Hand.result m c := by
  funext i
  have hi : i = ix2 (i 0) (i 1) := funext fun a => match a with
    | 0 => rfl
    | 1 => rfl
  exact (congrArg _ hi).trans (Cert.ReferenceIdeal.Hand.out_apply _ _ _ _ _ hf (i 0) (i 1))

end Cert.Equal
-- ==== Proof.lean ====
/-
  The certificate: the runs of the three programs, the precondition and the equation of the two results, assembled into
  the claim.
-/
module

public import proofs.«01_k».proof.Defs
public import proofs.«01_k».proof.Proof.KernelFrame
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel runs, leaves its arguments alone and its counters at zero. -/
theorem frame_kernel : Cert.quiescent_Kernel := fun m ρ _ =>
  (θ_run Cert.Kernel.defs _ _).mono (fun _ h => ⟨fun c => Cert.Kernel.Hand.args_kept m h.1 c, h.2⟩)
    (Cert.Kernel.Hand.run_main (F := Bits) m ρ)

/-- So does its idealization, -/
theorem frame_ideal : Cert.quiescent_KernelIdeal := fun m ρ _ =>
  (θ_run Cert.KernelIdeal.defs _ _).mono (fun _ h => ⟨fun c => Cert.KernelIdeal.Hand.args_kept m h.1 c, h.2⟩)
    (Cert.KernelIdeal.Hand.run_main (F := Ideal) m ρ)

/-- and so does the reference, which declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's constant is the scale the table names. -/
theorem preserved : Cert.preserves_Kernel_KernelIdeal :=
  IdealRules.named_const.statement Cert.KernelIdeal.κ "scale" .f32 0x3D93CD3A#32 (((Real.sqrt 192)⁻¹ : ℝ) : EReal) rfl

/-- The idealized kernel and the reference end with equal results. -/
theorem equal_results : Cert.algebraic_KernelIdeal_ReferenceIdeal_pre_finite_inputs := by
  intro m ρ m' ρ' hpre hagree
  refine ⟨Cert.KernelIdeal.Hand.result m, ?_, ?_⟩
  · exact (θ_run Cert.KernelIdeal.defs _ _).mono
      (fun _ h c => ⟨((h.1 c).1 6).trans (Cert.KernelIdeal.Hand.result_eq m c), Cert.KernelIdeal.Hand.args_kept m h.1 c⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v22_eq (F := Ideal) _ _ _ _ _).trans ?_
    obtain ⟨h0, h1, h2, h3, h4⟩ := hagree c
    rw [h0, h1, h2, h3, h4]
    exact Cert.Equal.value_eq m c (Cert.Pre_finite_inputs.Hand.finite _ _ _ _ _ (hpre c))

theorem claim : Cert.Claim :=
  ⟨Cert.Kernel.Gen.facts, Cert.KernelIdeal.Gen.facts, Cert.ReferenceIdeal.Gen.facts, Cert.Pre_finite_inputs.Hand.facts,
    frame_kernel, frame_ideal, fun m ρ _ => frame_ideal m ρ trivial, frame_reference,
    fun m ρ _ => frame_reference m ρ trivial, preserved, equal_results⟩

end Cert.Proof

end
